-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sinusoidal_weights [hPre_sinusoidal_weights : Cert.Pre_sinusoidal_weights.Facts] (m : (ℓ : Loc Cert.KernelIdeal.nD Cert.KernelIdeal.τ Cert.KernelIdeal.sig) → Buf (Elt Ideal) ℓ) : Prop :=
  ∀ c : Dev Cert.KernelIdeal.nD,
    (Cert.Pre_sinusoidal_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sinusoidal_weights [hPre_sinusoidal_weights : Cert.Pre_sinusoidal_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sinusoidal_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sinusoidal_weights [hKernelIdeal : Cert.KernelIdeal.Facts] [hPre_sinusoidal_weights : Cert.Pre_sinusoidal_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sinusoidal_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sinusoidal_weights [hReferenceIdeal : Cert.ReferenceIdeal.Facts] [hPre_sinusoidal_weights : Cert.Pre_sinusoidal_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sinusoidal_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sinusoidal_weights [hKernelIdeal : Cert.KernelIdeal.Facts] [hReferenceIdeal : Cert.ReferenceIdeal.Facts] [hPre_sinusoidal_weights : Cert.Pre_sinusoidal_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sinusoidal_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_sinusoidal_weights : Cert.Pre_sinusoidal_weights.Facts),
    quiescent_Kernel (hKernel := hKernel)
    ∧ quiescent_KernelIdeal (hKernelIdeal := hKernelIdeal)
    ∧ quiescent_KernelIdeal_pre_sinusoidal_weights (hKernelIdeal := hKernelIdeal) (hPre_sinusoidal_weights := hPre_sinusoidal_weights)
    ∧ quiescent_ReferenceIdeal (hReferenceIdeal := hReferenceIdeal)
    ∧ quiescent_ReferenceIdeal_pre_sinusoidal_weights (hReferenceIdeal := hReferenceIdeal) (hPre_sinusoidal_weights := hPre_sinusoidal_weights)
    ∧ preserves_Kernel_KernelIdeal
    ∧ algebraic_KernelIdeal_ReferenceIdeal_pre_sinusoidal_weights (hKernelIdeal := hKernelIdeal) (hReferenceIdeal := hReferenceIdeal) (hPre_sinusoidal_weights := hPre_sinusoidal_weights)
-- ==== Pre_sinusoidal_weights.lean ====
abbrev S4x8192 : Shape := ⟨2, ![4, 8192]⟩
abbrev S8192x768 : Shape := ⟨2, ![8192, 768]⟩
abbrev S384 : Shape := ⟨1, ![384]⟩
abbrev S_ : Shape := ⟨0, ![]⟩
abbrev S8192 : Shape := ⟨1, ![8192]⟩
abbrev S8192x1 : Shape := ⟨2, ![8192, 1]⟩
abbrev S1x384 : Shape := ⟨2, ![1, 384]⟩
abbrev S8192x384 : Shape := ⟨2, ![8192, 384]⟩

class Facts : Prop where
  bcast_S_S384 : S_.BroadcastsInDim S384 (![] : Fin 0 → Fin S384.rank)
  bcast_S8192_S8192x1_0 : S8192.BroadcastsInDim S8192x1 (![0] : Fin 1 → Fin S8192x1.rank)
  bcast_S384_S1x384_1 : S384.BroadcastsInDim S1x384 (![1] : Fin 1 → Fin S1x384.rank)
  bcast_S8192x1_S8192x384_0_1 : S8192x1.BroadcastsInDim S8192x384 (![0, 1] : Fin 2 → Fin S8192x384.rank)
  bcast_S1x384_S8192x384_0_1 : S1x384.BroadcastsInDim S8192x384 (![0, 1] : Fin 2 → Fin S8192x384.rank)
  concatenates_S8192x384_S8192x384_S8192x768_d1 : Shape.Concatenates [S8192x384, S8192x384] S8192x768 1

variable [Facts]

def fn {F : FTy → Type} [FloatOps F] (main_arg0 : IVec S4x8192 32) (main_arg1 : FVec F S8192x768 .f32) : IVec S8192x768 1 :=
  let main_v0 : FVec F S384 .f32 := sitofp .f32 (iotaInDim S384 32 0)
  let main_cst : FVec F S_ .f32 := constant S_ .f32 0xBCC50013#32
  let main_v1 : FVec F S384 .f32 := broadcastInDim S384 ![] bcast_S_S384 main_cst
  let main_v2 : FVec F S384 .f32 := mulf main_v0 main_v1
  let main_v3 : FVec F S384 .f32 := Host.exp main_v2
  let main_v4 : FVec F S8192 .f32 := sitofp .f32 (iotaInDim S8192 32 0)
  let main_v5 : FVec F S8192x1 .f32 := broadcastInDim S8192x1 ![0] bcast_S8192_S8192x1_0 main_v4
  let main_v6 : FVec F S1x384 .f32 := broadcastInDim S1x384 ![1] bcast_S384_S1x384_1 main_v3
  let main_v7 : FVec F S8192x384 .f32 := broadcastInDim S8192x384 ![0, 1] bcast_S8192x1_S8192x384_0_1 main_v5
  let main_v8 : FVec F S8192x384 .f32 := broadcastInDim S8192x384 ![0, 1] bcast_S1x384_S8192x384_0_1 main_v6
  let main_v9 : FVec F S8192x384 .f32 := mulf main_v7 main_v8
  let main_v10 : FVec F S8192x384 .f32 := Host.cos main_v9
  let main_v11 : FVec F S8192x384 .f32 := Host.sin main_v9
  let main_v12 : FVec F S8192x768 .f32 := (fun a b => concatenate S8192x768 1 [⟨S8192x384, a⟩, ⟨S8192x384, b⟩] concatenates_S8192x384_S8192x384_S8192x768_d1) main_v10 main_v11
  let main_v13 : IVec S8192x768 1 := cmpf .oeq main_arg1 main_v12
  main_v13
-- ==== Kernel.lean ====
abbrev S4x8192 : Shape := ⟨2, ![4, 8192]⟩
abbrev S8192x768 : Shape := ⟨2, ![8192, 768]⟩
abbrev S8x768 : Shape := ⟨2, ![8, 768]⟩
abbrev S1024x768 : Shape := ⟨2, ![1024, 768]⟩
abbrev S1024x384 : Shape := ⟨2, ![1024, 384]⟩
abbrev S1x384 : Shape := ⟨2, ![1, 384]⟩

abbrev nBuf : Space → Nat
  | .hbm => 5
  | .vmem => 4
  | .smem => 0
  | _ => 0

abbrev bufTy : (tb : Table) → Fin (tcTables nBuf tb) → BufTy
  | .hbm, ⟨0, _⟩ => ⟨S4x8192, .i32⟩
  | .hbm, ⟨1, _⟩ => ⟨S8192x768, .f32⟩
  | .hbm, ⟨2, _⟩ => ⟨S8x768, .f32⟩
  | .hbm, ⟨3, _⟩ => ⟨S1024x768, .f32⟩
  | .hbm, ⟨4, _⟩ => ⟨S8192x768, .f32⟩
  | .local _ .vmem, ⟨0, _⟩ => ⟨S8x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v4 : Index := Scalar.indexCast arg0
  let c0_2 : Index := 0#32
  ![v4.toNat, 0]
def k0_off2 (i : grid0.Coords) : Fin 2 → Nat :=
  let arg0 : BitVec 32 := BitVec.ofNat 32 (i 0).val
  let v7 : Index := Scalar.indexCast arg0
  let c384_3 : Index := 384#32
  ![v7.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x8192 : Shape := ⟨2, ![4, 8192]⟩
abbrev S8192x768 : Shape := ⟨2, ![8192, 768]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x768, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x768, .f32⟩
  | .hbm, ⟨22, _⟩ => ⟨S8192x768, .i1⟩
  | .hbm, ⟨23, _⟩ => ⟨S_, .f32⟩
  | .hbm, ⟨24, _⟩ => ⟨S8192x768, .f32⟩
  | .hbm, ⟨25, _⟩ => ⟨S8192x768, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Rotation.lean ====
/- Hand-written: THE EQUATION. Over the extended reals, the two combinations of cosines and sines that the kernel forms are the
   cosine and the sine of the sum of the two angles, when both angles are real numbers. Also what it means here for an array to
   be a sinusoidal table: its left half holds cosines and its right half sines of row number times a frequency. -/
module

public import Idealize.ShloMosaic.PureOps.Ideal

@[expose] public section

noncomputable section

namespace Cert.Proof

open Idealize.ShloMosaic

/-- The cosine of a sum of two real angles, as extended reals. -/
theorem cos_turn (a b : ℝ) :
    (Real.cos a : EReal) * (Real.cos b : EReal) - (Real.sin a : EReal) * (Real.sin b : EReal) = (Real.cos (a + b) : EReal) := by
  rw [Real.cos_add]; push_cast; rfl

/-- The sine of a sum of two real angles, as extended reals. -/
theorem sin_turn (a b : ℝ) :
    (Real.sin a : EReal) * (Real.cos b : EReal) + (Real.cos a : EReal) * (Real.sin b : EReal) = (Real.sin (a + b) : EReal) := by
  rw [Real.sin_add]; push_cast; rfl

/-- `w` is a sinusoidal table with the frequencies `e`: at row `p` and column `k`, the cosine of `p · e k` in the left half
    (`k < 384`) and the sine of `p · e (k - 384)` in the right half. -/
structure IsTable (w : (⟨2, ![8192, 768]⟩ : Shape).Idx → EReal) (e : Nat → ℝ) : Prop where
  /-- The left half holds cosines. -/
  left : ∀ y, (y 1).val < 384 → w y = (Real.cos ((y 0).val * e (y 1).val) : EReal)
  /-- The right half holds sines. -/
  right : ∀ y, 384 ≤ (y 1).val → w y = (Real.sin ((y 0).val * e ((y 1).val - 384)) : EReal)

/-- A row of the table from two others: where row numbers add up (`p + d = q`), the left half of row `q` is the cosine of the
    sum of the two angles. The indices `pc`, `ps` name the cosine and the sine of one column at row `p`, and `dc`, `ds` at
    row `d`. -/
theorem IsTable.left_turn {w : (⟨2, ![8192, 768]⟩ : Shape).Idx → EReal} {e : Nat → ℝ} (hw : IsTable w e)
    (pc ps dc ds q : (⟨2, ![8192, 768]⟩ : Shape).Idx) (hk : (q 1).val < 384)
    (hrow : (q 0).val = (pc 0).val + (dc 0).val) (hp : (ps 0).val = (pc 0).val) (hd : (ds 0).val = (dc 0).val)
    (h1 : (pc 1).val = (q 1).val) (h2 : (ps 1).val = (q 1).val + 384) (h3 : (dc 1).val = (q 1).val)
    (h4 : (ds 1).val = (q 1).val + 384) :
    w pc * w dc - w ps * w ds = w q := by
  rw [hw.left pc (by omega), hw.left dc (by omega), hw.right ps (by omega), hw.right ds (by omega), hw.left q hk,
    hp, hd, h1, h2, h3, h4, hrow, Nat.add_sub_cancel, cos_turn]
  push_cast; rw [add_mul]

/-- As `left_turn`, for the right half: the sine of the sum of the two angles. -/
theorem IsTable.right_turn {w : (⟨2, ![8192, 768]⟩ : Shape).Idx → EReal} {e : Nat → ℝ} (hw : IsTable w e)
    (pc ps dc ds q : (⟨2, ![8192, 768]⟩ : Shape).Idx) (hk : 384 ≤ (q 1).val)
    (hrow : (q 0).val = (pc 0).val + (dc 0).val) (hp : (ps 0).val = (pc 0).val) (hd : (ds 0).val = (dc 0).val)
    (h1 : (pc 1).val + 384 = (q 1).val) (h2 : (ps 1).val = (q 1).val) (h3 : (dc 1).val + 384 = (q 1).val)
    (h4 : (ds 1).val = (q 1).val) :
    w ps * w dc + w pc * w ds = w q := by
  have hq : (q 1).val < 768 := (q 1).isLt
  have e1 : (pc 1).val = (q 1).val - 384 := by omega
  have e3 : (dc 1).val = (q 1).val - 384 := by omega
  rw [hw.left pc (by omega), hw.left dc (by omega), hw.right ps (by omega), hw.right ds (by omega), hw.right q hk,
    hp, hd, e1, h2, e3, h4, hrow, sin_turn]
  push_cast; rw [add_mul]

end Cert.Proof

end
-- ==== Proof.Word.lean ====
/- Hand-written: row and column numbers as 32-bit words. -/
module

public import Idealize.ShloMosaic.PureOps.Ideal

@[expose] public section

namespace Cert.Proof

/-- A small counting number is itself when read as a signed 32-bit word. -/
theorem toInt_small (n : Nat) (h : n < 8192) : (BitVec.ofNat 32 n).toInt = n := by
  rw [BitVec.toInt_eq_toNat_cond, BitVec.toNat_ofNat]; omega

end Cert.Proof

end
-- ==== Proof.Table.lean ====
/- Hand-written: WHAT THE PRECONDITION SAYS. The precondition compares the second argument, element by element, with the table
   that the module's set-up makes. When every comparison is true, the argument is a sinusoidal table (`table_of_pre`); and the
   table itself meets the precondition (`pre_of_table`), so the precondition is not empty. -/
module

public import proofs.«01_k».proof.Defs
public import proofs.«01_k».proof.Proof.Gen.Pre_sinusoidal_weights
public import proofs.«01_k».proof.Proof.Rotation
public import proofs.«01_k».proof.Proof.Word
public import Idealize.ShloMosaic.Lib.Pointwise

@[expose] public section

noncomputable section

namespace Cert.Proof

open Idealize.ShloMosaic Cert.Pre_sinusoidal_weights Cert.Pre_sinusoidal_weights.Facts

/-- The step between the logarithms of neighbouring frequencies is a real number. -/
theorem step_real : ∃ s : ℝ, Ideal.ofBits .f32 0xBCC50013#32 = (s : EReal) := by
  show ∃ s : ℝ, Ideal.ieee 8 23 0xBCC50013#32 = (s : EReal)
  unfold Ideal.ieee
  rw [if_neg (by decide), if_neg (by decide)]
  exact ⟨_, rfl⟩

/-- That real number. -/
def step : ℝ := step_real.choose

theorem step_eq : Ideal.ofBits .f32 0xBCC50013#32 = (step : EReal) := step_real.choose_spec

/-- The frequency of column `k`. -/
def freq (k : Nat) : ℝ := Real.exp (k * step)

/-- The table that the precondition compares the argument with. -/
def madeTable : FVec Ideal S8192x768 .f32 :=
  let ang : FVec Ideal S8192x384 .f32 :=
    mulf (broadcastInDim S8192x384 ![0, 1] bcast_S8192x1_S8192x384_0_1
        (broadcastInDim S8192x1 ![0] bcast_S8192_S8192x1_0 (sitofp .f32 (iotaInDim S8192 32 0))))
      (broadcastInDim S8192x384 ![0, 1] bcast_S1x384_S8192x384_0_1
        (broadcastInDim S1x384 ![1] bcast_S384_S1x384_1
          (Host.exp (mulf (sitofp .f32 (iotaInDim S384 32 0))
            (broadcastInDim S384 ![] bcast_S_S384 (constant S_ .f32 0xBCC50013#32))))))
  concatenate S8192x768 1 [⟨S8192x384, Host.cos ang⟩, ⟨S8192x384, Host.sin ang⟩] concatenates_S8192x384_S8192x384_S8192x768_d1

theorem fn_eq (a0 : IVec S4x8192 32) (w : FVec Ideal S8192x768 .f32) :
    Cert.Pre_sinusoidal_weights.fn (F := Ideal) a0 w = cmpf .oeq w madeTable := rfl

/-- A small counting number, made a word and then a float, is itself. -/
theorem float_small (n : Nat) (h : n < 8192) : (FloatOps.sitofp (F := Ideal) .f32 (BitVec.ofNat 32 n) : EReal) = ((n : ℝ) : EReal) := by
  show (((BitVec.ofNat 32 n).toInt : ℝ) : EReal) = _
  rw [toInt_small n h, Int.cast_natCast]

/-- The angle at row `p` and column `k`, as the set-up computes it. -/
theorem angle_eq (p k : Nat) (hp : p < 8192) (hk : k < 8192) :
    (FloatOps.sitofp (F := Ideal) .f32 (BitVec.ofNat 32 p) : EReal)
        * Ideal.exp ((FloatOps.sitofp (F := Ideal) .f32 (BitVec.ofNat 32 k) : EReal) * Ideal.ofBits .f32 0xBCC50013#32)
      = ((p * freq k : ℝ) : EReal) := by
  rw [float_small p hp, float_small k hk, step_eq, ← EReal.coe_mul, Ideal.exp_coe, ← EReal.coe_mul]
  rfl

/-- The made table is a sinusoidal table. -/
theorem madeTable_isTable : IsTable madeTable freq := by
  constructor
  · intro y hy
    have hp : (y 0).val < 8192 := (y 0).isLt
    unfold madeTable
    pointwise
    rw [dif_pos hy]
    exact (congrArg Ideal.cos (angle_eq _ _ hp (by omega))).trans (Ideal.cos_coe _)
  · intro y hy
    have hp : (y 0).val < 8192 := (y 0).isLt
    have hk : (y 1).val < 768 := (y 1).isLt
    unfold madeTable
    pointwise
    rw [dif_neg (by omega)]
    exact (congrArg Ideal.sin (angle_eq _ _ hp (by omega))).trans (Ideal.sin_coe _)

/-- Where the precondition holds, the second argument is the made table. -/
theorem eq_of_pre (a0 : IVec S4x8192 32) (w : FVec Ideal S8192x768 .f32)
    (h : Cert.Pre_sinusoidal_weights.fn (F := Ideal) a0 w = fun _ => 1#1) : w = madeTable := by
  rw [fn_eq] at h
  funext y
  have hy : Ideal.cmp .oeq (w y) (madeTable y) = 1#1 := congrFun h y
  by_contra hne
  simp [Ideal.cmp, hne] at hy

/-- Where the precondition holds, the second argument is a sinusoidal table. -/
theorem table_of_pre (a0 : IVec S4x8192 32) (w : FVec Ideal S8192x768 .f32)
    (h : Cert.Pre_sinusoidal_weights.fn (F := Ideal) a0 w = fun _ => 1#1) : IsTable w freq := by
  rw [eq_of_pre a0 w h]
  exact madeTable_isTable

/-- The made table meets the precondition. -/
theorem pre_of_table (a0 : IVec S4x8192 32) :
    Cert.Pre_sinusoidal_weights.fn (F := Ideal) a0 madeTable = fun _ => 1#1 := by
  rw [fn_eq]
  funext y
  show Ideal.cmp .oeq (madeTable y) (madeTable y) = 1#1
  simp [Ideal.cmp]

end Cert.Proof

end
-- ==== Proof.Block.lean ====
/- Hand-written: WHAT ONE BLOCK COMPUTES. At grid point `i` the body writes the left half of the output block and then its right
   half. Each element is read here down to four elements of the two input blocks: two of row `i` of the base rows and two of the
   output row's own row of the offset rows (`block_left`, `block_right`). -/
module

public import proofs.«01_k».proof.Proof.Gen.KernelIdeal.Frame
public import Idealize.ShloMosaic.Lib.WritesUnit
public import Idealize.ShloMosaic.Lib.Pointwise
public import Idealize.ShloMosaic.Lib.Pipeline.ValueKit.Tiles

@[expose] public section

noncomputable section

namespace Cert.Proof

open Cert.KernelIdeal Cert.KernelIdeal.Gen
open Idealize.ShloMosaic Idealize.ShloMosaic.TcCoe

/-- A load of a unit-stride rectangle of a whole buffer, read at a place: the contents at the rectangle's offset plus the place. -/
theorem load_at {S : Shape} (arg : Memref sig .tc .vmem S .f32) (harg : arg.IsWhole) (x : Vec Ideal S .f32)
    {off size : Fin S.rank → Nat} (inb : ∀ a, off a + size a ≤ S.size a)
    (j : (Rect.unit (s := S) off size inb).shape.Idx) (k : S.Idx) (hk : ∀ a, (k a).val = off a + (j a).val) :
    arg.view.readAt (Elt Ideal) (Rect.unit (s := S) off size inb).toLoadRect (harg.unread x) j = x k := by
  rw [View.readAt_apply, harg.read_unread]
  congr 1
  funext a
  apply Fin.ext
  rw [hk a]
  exact Rect.idx_unit_val off size inb j a

/-- The left half's payload at a place: base cosine times offset cosine, less base sine times offset sine. -/
theorem pay_left (v0 v2 : Vec Ideal S1024x384 .f32) (v5 v8 : Vec Ideal S1x384 .f32) (x : S1024x384.Idx) :
    (k0_pay5 v0 v2 v5 v8 x : EReal)
      = v5 (ix2 ⟨0, Nat.one_pos⟩ (x 1)) * v0 x - v8 (ix2 ⟨0, Nat.one_pos⟩ (x 1)) * v2 x := by
  unfold k0_pay5 k0_pay1 k0_pay2 k0_pay3 k0_pay4
  pointwise

/-- The right half's payload at a place: base sine times offset cosine, plus base cosine times offset sine. -/
theorem pay_right (v0 v2 : Vec Ideal S1024x384 .f32) (v5 v8 : Vec Ideal S1x384 .f32) (x : S1024x384.Idx) :
    (k0_pay6 v0 v2 v5 v8 x : EReal)
      = v8 (ix2 ⟨0, Nat.one_pos⟩ (x 1)) * v0 x + v5 (ix2 ⟨0, Nat.one_pos⟩ (x 1)) * v2 x := by
  unfold k0_pay6 k0_pay1 k0_pay2 k0_pay3 k0_pay4
  pointwise

/-- The row that point `i` loads of the base rows is row `i`. -/
theorem off1_row (i : grid0.Coords) : k0_off1 i 0 = (i 0).val := by
  have h : (i 0).val < 8 := (i 0).isLt
  simp [k0_off1, Scalar.indexCast, BitVec.toNat_ofNat]; omega

theorem off2_row (i : grid0.Coords) : k0_off2 i 0 = (i 0).val := by
  have h : (i 0).val < 8 := (i 0).isLt
  simp [k0_off2, Scalar.indexCast, BitVec.toNat_ofNat]; omega

section Out

variable (c : Dev nD) (i : grid0.Coords) (arg1 : Memref sig .tc .vmem S8x768 .f32) (harg1 : arg1.IsWhole)
  (arg2 : Memref sig .tc .vmem S1024x768 .f32) (harg2 : arg2.IsWhole) (arg3 : Memref sig .tc .vmem S1024x768 .f32)
  (harg3 : arg3.IsWhole) (x0 : Vec Ideal S8x768 .f32) (x1 : Vec Ideal S1024x768 .f32)

/-- THE LEFT HALF OF A BLOCK at an index. `pc` and `ps` name the base row's cosine and sine of the column, `dc` and `ds` the
    offset row's. -/
theorem block_left (y : S1024x768.Idx) (hy : (y 1).val < 384) (pc ps : S8x768.Idx) (dc ds : S1024x768.Idx)
    (hpc : (pc 0).val = (i 0).val ∧ (pc 1).val = (y 1).val) (hps : (ps 0).val = (i 0).val ∧ (ps 1).val = (y 1).val + 384)
    (hdc : (dc 0).val = (y 0).val ∧ (dc 1).val = (y 1).val) (hds : (ds 0).val = (y 0).val ∧ (ds 1).val = (y 1).val + 384) :
    (out0_A_2 c i arg1 harg1 arg2 harg2 arg3 harg3 x0 x1 y : EReal) = x0 pc * x1 dc - x0 ps * x1 ds := by
  unfold out0_A_2 kernelRun0_A
  refine (View.read_writes_cons_unit_of_not_mem VO0_2 _ _ _ _ y rfl (1 : Fin 2) (Or.inl hy)).trans ?_
  refine (View.read_writes_cons_unit_of_mem VO0_2 _ _ _ _ y (ix2 (y 0) ⟨(y 1).val, hy⟩) rfl ?_).trans ?_
  · intro (a : Fin 2)
    match a with
    | ⟨0, _⟩ => exact (Nat.zero_add _).symm
    | ⟨1, _⟩ => exact (Nat.zero_add _).symm
  refine (pay_left _ _ _ _ _).trans ?_
  refine congrArg₂ (fun a b : EReal => a - b) (congrArg₂ (fun a b : EReal => a * b) ?_ ?_)
    (congrArg₂ (fun a b : EReal => a * b) ?_ ?_)
  · refine load_at arg1 harg1 x0 (k0_off1_inb i) _ pc fun (a : Fin 2) => ?_
    match a with
    | ⟨0, _⟩ => exact hpc.1.trans (off1_row i).symm
    | ⟨1, _⟩ => exact hpc.2.trans (Nat.zero_add _).symm
  · refine load_at arg2 harg2 x1 _ _ dc fun (a : Fin 2) => ?_
    match a with
    | ⟨0, _⟩ => exact hdc.1.trans (Nat.zero_add _).symm
    | ⟨1, _⟩ => exact hdc.2.trans (Nat.zero_add _).symm
  · refine load_at arg1 harg1 x0 (k0_off2_inb i) _ ps fun (a : Fin 2) => ?_
    match a with
    | ⟨0, _⟩ => exact hps.1.trans (off2_row i).symm
    | ⟨1, _⟩ => exact hps.2.trans (Nat.add_comm _ _)
  · refine load_at arg2 harg2 x1 _ _ ds fun (a : Fin 2) => ?_
    match a with
    | ⟨0, _⟩ => exact hds.1.trans (Nat.zero_add _).symm
    | ⟨1, _⟩ => exact hds.2.trans (Nat.add_comm _ _)

/-- THE RIGHT HALF OF A BLOCK at an index, with the same names for the four elements. -/
theorem block_right (y : S1024x768.Idx) (hy : 384 ≤ (y 1).val) (pc ps : S8x768.Idx) (dc ds : S1024x768.Idx)
    (hpc : (pc 0).val = (i 0).val ∧ (pc 1).val + 384 = (y 1).val) (hps : (ps 0).val = (i 0).val ∧ (ps 1).val = (y 1).val)
    (hdc : (dc 0).val = (y 0).val ∧ (dc 1).val + 384 = (y 1).val) (hds : (ds 0).val = (y 0).val ∧ (ds 1).val = (y 1).val) :
    (out0_A_2 c i arg1 harg1 arg2 harg2 arg3 harg3 x0 x1 y : EReal) = x0 ps * x1 dc + x0 pc * x1 ds := by
  have hlt : (y 1).val < 768 := (y 1).isLt
  unfold out0_A_2 kernelRun0_A
  refine (View.read_writes_cons_unit_of_mem VO0_2 _ _ _ _ y (ix2 (y 0) ⟨(y 1).val - 384, by omega⟩) rfl ?_).trans ?_
  · intro (a : Fin 2)
    match a with
    | ⟨0, _⟩ => exact (Nat.zero_add _).symm
    | ⟨1, _⟩ => exact (Nat.add_sub_of_le hy).symm
  refine (pay_right _ _ _ _ _).trans ?_
  refine congrArg₂ (fun a b : EReal => a + b) (congrArg₂ (fun a b : EReal => a * b) ?_ ?_)
    (congrArg₂ (fun a b : EReal => a * b) ?_ ?_)
  · refine load_at arg1 harg1 x0 (k0_off2_inb i) _ ps fun (a : Fin 2) => ?_
    match a with
    | ⟨0, _⟩ => exact hps.1.trans (off2_row i).symm
    | ⟨1, _⟩ => exact hps.2.trans (Nat.add_sub_of_le hy).symm
  · refine load_at arg2 harg2 x1 _ _ dc fun (a : Fin 2) => ?_
    match a with
    | ⟨0, _⟩ => exact hdc.1.trans (Nat.zero_add _).symm
    | ⟨1, _⟩ => exact (Nat.eq_sub_of_add_eq hdc.2).trans (Nat.zero_add _).symm
  · refine load_at arg1 harg1 x0 (k0_off1_inb i) _ pc fun (a : Fin 2) => ?_
    match a with
    | ⟨0, _⟩ => exact hpc.1.trans (off1_row i).symm
    | ⟨1, _⟩ => exact (Nat.eq_sub_of_add_eq hpc.2).trans (Nat.zero_add _).symm
  · refine load_at arg2 harg2 x1 _ _ ds fun (a : Fin 2) => ?_
    match a with
    | ⟨0, _⟩ => exact hds.1.trans (Nat.zero_add _).symm
    | ⟨1, _⟩ => exact hds.2.trans (Nat.add_sub_of_le hy).symm

end Out

end Cert.Proof

end
-- ==== Proof.KernelValue.lean ====
/- Hand-written: WHAT THE ARRAY HOLDS. The two input windows are whole arrays: the base rows (rows 0, 1024, …, 7168 of the second
   argument) and the offset rows (rows 0 to 1023). Output block `t` is rows `1024 t` to `1024 t + 1023`. When the second argument
   is a sinusoidal table, every element of the output is the same element of the second argument (`final_eq`). -/
module

public import proofs.«01_k».proof.Proof.Block
public import proofs.«01_k».proof.Proof.Rotation
public import proofs.«01_k».proof.Proof.Gen.KernelIdeal.Value
public import Idealize.ShloMosaic.Lib.Pipeline.ValueKit.Geometry

@[expose] public section

noncomputable section

namespace Cert.Proof

open Cert.KernelIdeal Cert.KernelIdeal.Gen
open Idealize.ShloMosaic Idealize.ShloMosaic.TcCoe
open Idealize.ShloMosaic.Pipeline (Dat)

variable (m : (ℓ : Loc nD τ sig) → Buf (Elt Ideal) ℓ)

/-- The second argument on device `c`. -/
abbrev wts (c : Dev nD) : S8192x768.Idx → EReal := m ((c : Thread nD τ).loc main_arg1)

/-- The base rows as the kernel's launch finds them: every 1024th row of the second argument. -/
theorem base_eq (c : Dev nD) (z : S8x768.Idx) (q : S8192x768.Idx) (h0 : (q 0).val = 1024 * (z 0).val) (h1 : (q 1).val = (z 1).val) :
    (V m c main_v0 z : EReal) = wts m c q := by
  have e : (V m c main_v0 : S8x768.Idx → EReal) = Host.slice S8x768 ![0, 0] ![1024, 1] (wts m c) := by
    unfold V hostOps0
    after_results
  rw [e]
  refine congrArg (wts m c) (funext fun (a : Fin 2) => Fin.ext ?_)
  match a with
  | ⟨0, _⟩ => exact (Nat.zero_add _).trans h0.symm
  | ⟨1, _⟩ => exact (Nat.zero_add _).trans ((Nat.one_mul _).trans h1.symm)

/-- The offset rows as the kernel's launch finds them: the first 1024 rows of the second argument. -/
theorem offs_eq (c : Dev nD) (z : S1024x768.Idx) (q : S8192x768.Idx) (h0 : (q 0).val = (z 0).val) (h1 : (q 1).val = (z 1).val) :
    (V m c main_v1 z : EReal) = wts m c q := by
  have e : (V m c main_v1 : S1024x768.Idx → EReal) = extractStridedSlice S1024x768 ![0, 0] (wts m c) slices_S8192x768_S1024x768_0_0 := by
    unfold V hostOps0
    after_results
  rw [e]
  refine extractStridedSlice_apply _ _ _ z q fun (a : Fin 2) => ?_
  match a with
  | ⟨0, _⟩ => exact h0.trans (Nat.zero_add _).symm
  | ⟨1, _⟩ => exact h1.trans (Nat.zero_add _).symm

/-- Where the windows lie: the two inputs' blocks start at the array's corner, the output's block at row block `t`. -/
theorem index_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = (grid0.coords t 0).val ∧ win0_2.index t (1 : Fin 2) = 0 :=
  (by decide +kernel : ∀ t : Fin grid0.N, _)

/-- An element of the base block is an element of the second argument. -/
theorem base_at (c : Dev nD) (t : Fin cfg0.N) (z : S8x768.Idx) (q : S8192x768.Idx) (h0 : (q 0).val = 1024 * (z 0).val)
    (h1 : (q 1).val = (z 1).val) : (iblk m c 0 t z : EReal) = wts m c q := by
  obtain ⟨e0, e1, -⟩ := index_facts t
  show (V m c main_v0 (((cfg0.win 0).blk t).view.emb z) : EReal) = _
  refine base_eq m c _ q ?_ ?_
  · rw [h0]; show _ = 1024 * (win0_0.index t (0 : Fin 2) * 8 + 1 * (z 0).val); omega
  · rw [h1]; show _ = win0_0.index t (1 : Fin 2) * 768 + 1 * (z 1).val; omega

/-- An element of the offset block is an element of the second argument. -/
theorem offs_at (c : Dev nD) (t : Fin cfg0.N) (z : S1024x768.Idx) (q : S8192x768.Idx) (h0 : (q 0).val = (z 0).val)
    (h1 : (q 1).val = (z 1).val) : (iblk m c 1 t z : EReal) = wts m c q := by
  obtain ⟨-, -, e0, e1, -⟩ := index_facts t
  show (V m c main_v1 (((cfg0.win 1).blk t).view.emb z) : EReal) = _
  refine offs_eq m c _ q ?_ ?_
  · rw [h0]; show _ = win0_1.index t (0 : Fin 2) * 1024 + 1 * (z 0).val; omega
  · rw [h1]; show _ = win0_1.index t (1 : Fin 2) * 768 + 1 * (z 1).val; omega

/-- `base_at` at a row and a column. -/
theorem base_ix (c : Dev nD) (t : Fin cfg0.N) (b : Fin 8) (k : Fin 768) :
    (iblk m c 0 t (ix2 b k) : EReal) = wts m c (ix2 ⟨1024 * b.val, by omega⟩ k) :=
  base_at m c t (ix2 b k) (ix2 ⟨1024 * b.val, by omega⟩ k) rfl rfl

/-- `offs_at` at a row and a column. -/
theorem offs_ix (c : Dev nD) (t : Fin cfg0.N) (d : Fin 1024) (k : Fin 768) :
    (iblk m c 1 t (ix2 d k) : EReal) = wts m c (ix2 ⟨d.val, by omega⟩ k) :=
  offs_at m c t (ix2 d k) (ix2 ⟨d.val, by omega⟩ k) rfl rfl

/-- What the body leaves at point `t`, at a place of its block, is the second argument's element there. -/
theorem out_at (c : Dev nD) {e : Nat → ℝ} (hw : IsTable (wts m c) e) (t : Fin cfg0.N) (y : S1024x768.Idx) (q : S8192x768.Idx)
    (h0 : (q 0).val = 1024 * (grid0.coords t 0).val + (y 0).val) (h1 : (q 1).val = (y 1).val) :
    (outsAt0 m c t y : EReal) = wts m c q := by
  have hb : (grid0.coords t 0).val < 8 := (grid0.coords t 0).isLt
  have hr : (y 0).val < 1024 := (y 0).isLt
  have hk : (y 1).val < 768 := (y 1).isLt
  unfold outsAt0
  by_cases hy : (y 1).val < 384
  · refine (block_left c _ _ _ _ _ _ _ _ _ y hy (ix2 ⟨_, hb⟩ ⟨(y 1).val, hk⟩) (ix2 ⟨_, hb⟩ ⟨(y 1).val + 384, by omega⟩)
      (ix2 ⟨_, hr⟩ ⟨(y 1).val, hk⟩) (ix2 ⟨_, hr⟩ ⟨(y 1).val + 384, by omega⟩) ⟨rfl, rfl⟩ ⟨rfl, rfl⟩ ⟨rfl, rfl⟩ ⟨rfl, rfl⟩).trans ?_
    refine (congrArg₂ (fun a b : EReal => a - b)
      (congrArg₂ (fun a b : EReal => a * b) (base_ix m c t _ _)
        (offs_ix m c t _ _))
      (congrArg₂ (fun a b : EReal => a * b) (base_ix m c t _ _)
        (offs_ix m c t _ _))).trans ?_
    exact hw.left_turn _ _ _ _ q (by omega) h0 rfl rfl h1.symm (by rw [h1]; rfl) h1.symm (by rw [h1]; rfl)
  · refine (block_right c _ _ _ _ _ _ _ _ _ y (by omega) (ix2 ⟨_, hb⟩ ⟨(y 1).val - 384, by omega⟩) (ix2 ⟨_, hb⟩ ⟨(y 1).val, hk⟩)
      (ix2 ⟨_, hr⟩ ⟨(y 1).val - 384, by omega⟩) (ix2 ⟨_, hr⟩ ⟨(y 1).val, hk⟩) ⟨rfl, Nat.sub_add_cancel (by omega)⟩ ⟨rfl, rfl⟩
      ⟨rfl, Nat.sub_add_cancel (by omega)⟩ ⟨rfl, rfl⟩).trans ?_
    refine (congrArg₂ (fun a b : EReal => a + b)
      (congrArg₂ (fun a b : EReal => a * b) (base_ix m c t _ _)
        (offs_ix m c t _ _))
      (congrArg₂ (fun a b : EReal => a * b) (base_ix m c t _ _)
        (offs_ix m c t _ _))).trans ?_
    exact hw.right_turn _ _ _ _ q (by omega) h0 rfl rfl
      ((Nat.sub_add_cancel (Nat.le_of_not_lt hy)).trans h1.symm) h1.symm
      ((Nat.sub_add_cancel (Nat.le_of_not_lt hy)).trans h1.symm) h1.symm

/-- THE ARRAY AFTER THE RUN: the second argument, when that is a sinusoidal table. -/
theorem final_eq (c : Dev nD) {e : Nat → ℝ} (hw : IsTable (wts m c) e) : (dats m 0 c).arrAt 2 cfg0.N = wts m c := by
  refine (dats m 0 c).arrAt_eq_of_cover 2 _ (fun t hf => ?_)
    ((by decide +kernel : (cfg0.win 2).Covers).cover _ (Memref.isWhole_whole _))
  rw [Cert.KernelIdeal.Value.flushed2]
  obtain ⟨-, -, -, -, e0, e1⟩ := index_facts t
  funext y
  show (outsAt0 m c t y : EReal) = wts m c (((cfg0.win 2).blk t).view.emb y)
  refine out_at m c hw t _ (((cfg0.win 2).blk t).view.emb y) ?_ ?_
  · show win0_2.index t (0 : Fin 2) * 1024 + 1 * (y 0).val = 1024 * (grid0.coords t 0).val + (y 0).val; omega
  · show win0_2.index t (1 : Fin 2) * 768 + 1 * (y 1).val = (y 1).val; omega

end Cert.Proof

end
-- ==== Proof.RefValue.lean ====
/- Hand-written: WHAT THE REFERENCE COMPUTES. The reference takes the rows 0, 1, …, 8191 of its second argument. Row numbers are
   never negative and never too large, so the wrap of negative numbers and the mask of numbers out of range both leave every
   row as it is, and the result is the second argument itself (`ref_eq`). -/
module

public import proofs.«01_k».proof.Defs
public import proofs.«01_k».proof.Proof.Gen.ReferenceIdeal
public import proofs.«01_k».proof.Proof.Word
public import Idealize.ShloMosaic.Lib.Pointwise
public import Idealize.ShloMosaic.Lib.ReduceAll
public import Idealize.ShloMosaic.Lib.WordCmp

@[expose] public section

noncomputable section

namespace Cert.Proof.Ref

open Idealize.ShloMosaic Cert.ReferenceIdeal Cert.ReferenceIdeal.Facts₀

/-- The row numbers the reference takes, after the wrap of negative ones. -/
def rows : IVec S8192x1 32 :=
  broadcastInDim S8192x1 ![0] bcast_S8192_S8192x1_0
    (select (cmpi .slt (iotaInDim S8192 32 0) (broadcastInDim S8192 ![] bcast_S_S8192 (constantI S_ 32 0#32)))
      (addi (iotaInDim S8192 32 0) (broadcastInDim S8192 ![] bcast_S_S8192 (constantI S_ 32 8192#32)))
      (iotaInDim S8192 32 0))

/-- Whether each row number lies between 0 and 8191. -/
def inRange : IVec S8192x1 1 :=
  andi (cmpi .sge rows (broadcastInDim S8192x1 ![] bcast_S_S8192x1 (constantI S_ 32 0#32)))
    (cmpi .sle rows (broadcastInDim S8192x1 ![0, 1] bcast_S1x1_S8192x1_0_1
      (broadcastInDim S1x1 ![1] bcast_S1_S1x1_1 (constantI S1 32 8191#32))))

/-- The row number at place `p` is `p`. -/
theorem rows_apply (i : S8192x1.Idx) : rows i = BitVec.ofNat 32 (i 0).val := by
  have hp : (i 0).val < 8192 := (i 0).isLt
  unfold rows
  pointwise
  have hc : IntOp.cmpi .slt (BitVec.ofNat 32 (i 0).val) 0#32 = 0#1 := by
    rw [WordCmp.cmpi_slt_eq, toInt_small _ hp, (by decide : (0#32).toInt = 0), decide_eq_false (by omega)]
    rfl
  rw [hc]
  rfl

/-- Every row number is in range. -/
theorem inRange_one (i : S8192x1.Idx) : inRange i = 1#1 := by
  have hp : (i 0).val < 8192 := (i 0).isLt
  have h := rows_apply i
  unfold inRange
  pointwise
  have h0 : (0#32).toInt = 0 := by decide
  have h1 : (8191#32).toInt = 8191 := by decide
  rw [h, WordCmp.cmpi_sge_eq, WordCmp.cmpi_sle_eq, toInt_small _ hp, h0, h1, decide_eq_true (by omega), decide_eq_true (by omega)]
  rfl

/-- The rows gathered are the operand's own. -/
theorem gather_eq (w : FVec Ideal S8192x768 .f32) (y : S8192x768.Idx) :
    Host.gather gather_S8192x768_S8192x1_S8192x768_1_0_n_n_0_1_1768 w rows y = w y := by
  have hp : (y 0).val < 8192 := (y 0).isLt
  unfold Host.gather
  congr 1
  funext a
  refine Fin.ext ?_
  show GatherDims.start _ y rows a + GatherDims.batchCoord _ y a + GatherDims.offCoord _ y a = (y a).val
  rw [GatherDims.batchCoord_eq_zero _ _ _ List.not_mem_nil, Nat.add_zero]
  have ha : a = (0 : Fin 2) ∨ a = (1 : Fin 2) := by
    match a with
    | ⟨0, _⟩ => exact Or.inl rfl
    | ⟨1, _⟩ => exact Or.inr rfl
  rcases ha with rfl | rfl
  · rw [GatherDims.offCoord_eq_zero _ _ _ (by decide), Nat.add_zero]
    unfold GatherDims.start
    rw [dif_pos (by decide), rows_apply]
    show min (BitVec.ofNat 32 (y 0).val).toInt.toNat (8192 - 1) = (y 0).val
    rw [toInt_small _ hp]
    omega
  · unfold GatherDims.start GatherDims.offCoord
    rw [dif_neg (by decide), dif_pos (by decide), Nat.zero_add]
    rfl

/-- The reference's result is its second argument. -/
theorem ref_eq (w : FVec Ideal S8192x768 .f32) :
    select (broadcastInDim S8192x768 ![0] bcast_S8192_S8192x768_0
        (Host.reduce IntOp.andi inRange (constantI S_ 1 1#1) reducesTo_S8192x1_S8192_d1 h_S_))
      (Host.gather gather_S8192x768_S8192x1_S8192x768_1_0_n_n_0_1_1768 w rows)
      (broadcastInDim S8192x768 ![] bcast_S_S8192x768 (constant S_ .f32 0x7FC00000#32)) = w := by
  funext y
  have hm : broadcastInDim S8192x768 ![0] bcast_S8192_S8192x768_0
      (Host.reduce IntOp.andi inRange (constantI S_ 1 1#1) reducesTo_S8192x1_S8192_d1 h_S_) y = 1#1 :=
    Host.reduce_andi_one _ _ _ _ _ rfl inRange_one
  unfold select
  rw [hm]
  exact gather_eq w y

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_sinusoidal_weights
public import proofs.«01_k».proof.Proof.Table
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- THE REFERENCE'S RUN: it ends with the result at the second argument and both arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      ∀ c : Dev Cert.ReferenceIdeal.nD,
        r.2.mem ((c.tc : Thread _ _).loc Cert.ReferenceIdeal.main_v1) = m ((c.tc : Thread _ _).loc Cert.ReferenceIdeal.main_arg1)
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1) :=
  (θ_run Cert.ReferenceIdeal.defs _ _).mono (fun _ h c => ⟨(h c).1.trans (Ref.ref_eq _), (h c).2⟩)
    (Cert.ReferenceIdeal.Value.run (F := Ideal) m ρ)

theorem claim : Cert.Claim := ⟨Cert.Kernel.Gen.facts, Cert.KernelIdeal.Gen.facts, Cert.ReferenceIdeal.Gen.facts, Cert.Pre_sinusoidal_weights.Gen.facts, by
  refine ⟨fun m ρ _ => Cert.Kernel.Gen.frame m ρ, fun m ρ _ => Cert.KernelIdeal.Gen.frame m ρ,
    fun m ρ _ => Cert.KernelIdeal.Gen.frame m ρ, fun m ρ _ => ?_, fun m ρ _ => ?_, trivial, ?_⟩
  · exact (θ_run Cert.ReferenceIdeal.defs _ _).mono
      (fun r h => ⟨fun c => (h c).2, Idealize.ShloMosaic.sem_eq_zero_of_no_sems (by decide) r.2⟩) (ref_run m ρ)
  · exact (θ_run Cert.ReferenceIdeal.defs _ _).mono
      (fun r h => ⟨fun c => (h c).2, Idealize.ShloMosaic.sem_eq_zero_of_no_sems (by decide) r.2⟩) (ref_run m ρ)
  · intro m g m' g' hpre heq
    refine ⟨fun c => wts m c, ?_, ?_⟩
    · exact (θ_run Cert.KernelIdeal.defs _ _).mono
        (fun _ h c => ⟨(h c).1.trans (final_eq m c (table_of_pre _ _ (hpre c))), (h c).2⟩)
        (Cert.KernelIdeal.Value.run_blocks (F := Ideal) m g)
    · exact (θ_run Cert.ReferenceIdeal.defs _ _).mono
        (fun _ h c => ⟨(h c).1.trans (heq c).2, (h c).2⟩) (ref_run m' g')⟩

end Cert.Proof

end
